-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x110x300 : Shape := ⟨3, ![16, 110, 300]⟩
abbrev S16 : Shape := ⟨1, ![16]⟩
abbrev S16x110x40x300 : Shape := ⟨4, ![16, 110, 40, 300]⟩
abbrev S16x110x40x1 : Shape := ⟨4, ![16, 110, 40, 1]⟩
abbrev S2x100 : Shape := ⟨2, ![2, 100]⟩
abbrev S300x300 : Shape := ⟨2, ![300, 300]⟩
abbrev S16x110x40 : Shape := ⟨3, ![16, 110, 40]⟩
abbrev S16x40x110 : Shape := ⟨3, ![16, 40, 110]⟩
abbrev S16x1x40x110 : Shape := ⟨4, ![16, 1, 40, 110]⟩
abbrev S16x110x110 : Shape := ⟨3, ![16, 110, 110]⟩
abbrev S1x110x300 : Shape := ⟨3, ![1, 110, 300]⟩
abbrev S1x110x40x300 : Shape := ⟨4, ![1, 110, 40, 300]⟩
abbrev S1x1x40x110 : Shape := ⟨4, ![1, 1, 40, 110]⟩
abbrev S1x110x110 : Shape := ⟨3, ![1, 110, 110]⟩
abbrev S110x40x300 : Shape := ⟨3, ![110, 40, 300]⟩
abbrev S40x110x300 : Shape := ⟨3, ![40, 110, 300]⟩
abbrev S4400x300 : Shape := ⟨2, ![4400, 300]⟩
abbrev S40x110 : Shape := ⟨2, ![40, 110]⟩
abbrev S110x40 : Shape := ⟨2, ![110, 40]⟩
abbrev S110x110 : Shape := ⟨2, ![110, 110]⟩
abbrev S110x300 : Shape := ⟨2, ![110, 300]⟩
abbrev S1x110 : Shape := ⟨2, ![1, 110]⟩
abbrev S110x1 : Shape := ⟨2, ![110, 1]⟩
abbrev S110 : Shape := ⟨1, ![110]⟩
abbrev S1 : Shape := ⟨1, ![1]⟩

abbrev nBuf : Space → Nat
  | .hbm => 10
  | .vmem => 10
  | .smem => 1
  | _ => 0

abbrev bufTy : (tb : Table) → Fin (tcTables nBuf tb) → BufTy
  | .hbm, ⟨0, _⟩ => ⟨S16x110x300, .f32⟩
  | .hbm, ⟨1, _⟩ => ⟨S16x110x40x300, .f32⟩
  | .hbm, ⟨2, _⟩ => ⟨S16x110x40x1, .f32⟩
  | .hbm, ⟨3, _⟩ => ⟨S2x100, .i32⟩
  | .hbm, ⟨4, _⟩ => ⟨S300x300, .f32⟩
  | .hbm, ⟨5, _⟩ => ⟨S300x300, .f32⟩
  | .hbm, ⟨6, _⟩ => ⟨S16x110x40, .f32⟩
  | .hbm, ⟨7, _⟩ => ⟨S16x40x110, .f32⟩
  | .hbm, ⟨8, _⟩ => ⟨S16x1x40x110, .f32⟩
  | .hbm, ⟨9, _⟩ => ⟨S16x110x110, .f32⟩
  | .local _ .vmem, ⟨0, _⟩ => ⟨S1x110x300, .f32⟩
  | .local _ .vmem, ⟨1, _⟩ => ⟨S1x110x300, .f32⟩
  | .local _ .vmem, ⟨2, _⟩ => ⟨S1x110x40x300, .f32⟩
  | .local _ .vmem, ⟨3, _⟩ => ⟨S1x110x40x300, .f32⟩
  | .local _ .vmem, ⟨4, _⟩ => ⟨S1x1x40x110, .f32⟩
  | .local _ .vmem, ⟨5, _⟩ => ⟨S1x1x40x110, .f32⟩
  | .local _ .vmem, ⟨6, _⟩ => ⟨S300x300, .f32⟩
  | .local _ .vmem, ⟨7, _⟩ => ⟨S300x300, .f32⟩
  | .local _ .vmem, ⟨8, _⟩ => ⟨S1x110x110, .f32⟩
  | .local _ .vmem, ⟨9, _⟩ => ⟨S1x110x110, .f32⟩
  | .local _ .smem, ⟨0, _⟩ => ⟨S16, .i32⟩
  | _, _ => ⟨S16x110x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c0_i32_66 : BitVec 32 := 0#32
  let v567 : BitVec 1 := Scalar.cmpi .eq arg1 c0_i32_66
  let v568 : BitVec 32 := Scalar.extui v567
  let c0_i32_67 : BitVec 32 := 0#32
  let v569 : BitVec 1 := Scalar.cmpi .ne v568 c0_i32_67
  v569

def k0_off1 (i : grid0.Coords) : Fin 1 → Nat :=
  let arg0 : BitVec 32 := BitVec.ofNat 32 (i 0).val
  let v632 : Index := Scalar.indexCast arg0
  ![v632.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x110x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x110x40x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x40x110 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S300x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S300x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x110x110 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S16x110x300 : Shape := ⟨3, ![16, 110, 300]⟩
abbrev S16 : Shape := ⟨1, ![16]⟩
abbrev S16x110x40x300 : Shape := ⟨4, ![16, 110, 40, 300]⟩
abbrev S16x110x40x1 : Shape := ⟨4, ![16, 110, 40, 1]⟩
abbrev S2x100 : Shape := ⟨2, ![2, 100]⟩
abbrev S300x300 : Shape := ⟨2, ![300, 300]⟩
abbrev S110 : Shape := ⟨1, ![110]⟩
abbrev S110x1 : Shape := ⟨2, ![110, 1]⟩
abbrev S1x110 : Shape := ⟨2, ![1, 110]⟩
abbrev S_ : Shape := ⟨0, ![]⟩
abbrev S110x110 : Shape := ⟨2, ![110, 110]⟩
abbrev S16x1x1 : Shape := ⟨3, ![16, 1, 1]⟩
abbrev S1x110x110 : Shape := ⟨3, ![1, 110, 110]⟩
abbrev S1x110x1 : Shape := ⟨3, ![1, 110, 1]⟩
abbrev S16x110x1 : Shape := ⟨3, ![16, 110, 1]⟩
abbrev S16x110x110 : Shape := ⟨3, ![16, 110, 110]⟩
abbrev S1x1x110 : Shape := ⟨3, ![1, 1, 110]⟩
abbrev S16x1x110 : Shape := ⟨3, ![16, 1, 110]⟩
abbrev S16x110 : Shape := ⟨2, ![16, 110]⟩
abbrev S16x110x40 : Shape := ⟨3, ![16, 110, 40]⟩
abbrev S16x40x110x110 : Shape := ⟨4, ![16, 40, 110, 110]⟩
abbrev S16x110x110x40 : Shape := ⟨4, ![16, 110, 110, 40]⟩
abbrev S16x1x110x40 : Shape := ⟨4, ![16, 1, 110, 40]⟩
abbrev S16x110x1x40 : Shape := ⟨4, ![16, 110, 1, 40]⟩

abbrev nBuf : Space → Nat
  | .hbm => 244
  | .vmem => 0
  | .smem => 0
  | _ => 0

abbrev hbmTy0_0 (i : Nat) : BufTy := match i % 128 with
  | 0 => ⟨S16x110x300, .f32⟩
  | 1 => ⟨S16, .i32⟩
  | 2 => ⟨S16x110x40x300, .f32⟩
  | 3 => ⟨S16x110x40x1, .f32⟩
  | 4 => ⟨S2x100, .i32⟩
  | 5 => ⟨S300x300, .f32⟩
  | 6 => ⟨S300x300, .f32⟩
  | 7 => ⟨S110, .i32⟩
  | 8 => ⟨S110x1, .i32⟩
  | 9 => ⟨S110, .i32⟩
  | 10 => ⟨S1x110, .i32⟩
  | 11 => ⟨S_, .i32⟩
  | 12 => ⟨S110x1, .i32⟩
  | 13 => ⟨S110x1, .i32⟩
  | 14 => ⟨S110x110, .i32⟩
  | 15 => ⟨S110x110, .i32⟩
  | 16 => ⟨S110x110, .i1⟩
  | 17 => ⟨S_, .i32⟩
  | 18 => ⟨S110x1, .i32⟩
  | 19 => ⟨S110x1, .i32⟩
  | 20 => ⟨S110x110, .i32⟩
  | 21 => ⟨S110x110, .i32⟩
  | 22 => ⟨S110x110, .i1⟩
  | 23 => ⟨S110x110, .i1⟩
  | 24 => ⟨S16x1x1, .i32⟩
  | 25 => ⟨S1x110x110, .i1⟩
  | 26 => ⟨S1x110x1, .i32⟩
  | 27 => ⟨S16x110x1, .i32⟩
  | 28 => ⟨S16x110x1, .i32⟩
  | 29 => ⟨S16x110x1, .i1⟩
  | 30 => ⟨S16x110x110, .i1⟩
  | 31 => ⟨S16x110x110, .i1⟩
  | 32 => ⟨S16x110x110, .i1⟩
  | 33 => ⟨S1x1x110, .i32⟩
  | 34 => ⟨S_, .i32⟩
  | 35 => ⟨S16x1x1, .i32⟩
  | 36 => ⟨S16x1x1, .i32⟩
  | 37 => ⟨S16x1x110, .i32⟩
  | 38 => ⟨S16x1x110, .i32⟩
  | 39 => ⟨S16x1x110, .i1⟩
  | 40 => ⟨S16x110x110, .i1⟩
  | 41 => ⟨S16x110x110, .i1⟩
  | 42 => ⟨S16x110x300, .f32⟩
  | 43 => ⟨S16x110x110, .f32⟩
  | 44 => ⟨S16x110x300, .f32⟩
  | 45 => ⟨S_, .f32⟩
  | 46 => ⟨S16x110, .f32⟩
  | 47 => ⟨S16x110, .f32⟩
  | 48 => ⟨S_, .f32⟩
  | 49 => ⟨S16x110, .f32⟩
  | 50 => ⟨S16x110, .f32⟩
  | 51 => ⟨S16x110x300, .f32⟩
  | 52 => ⟨S_, .f32⟩
  | 53 => ⟨S16x110, .f32⟩
  | 54 => ⟨S16x110, .f32⟩
  | 55 => ⟨S_, .f32⟩
  | 56 => ⟨S16x110, .f32⟩
  | 57 => ⟨S16x110, .f32⟩
  | 58 => ⟨S16x110x1, .f32⟩
  | 59 => ⟨S16x1x110, .f32⟩
  | 60 => ⟨S16x110x110, .f32⟩
  | 61 => ⟨S16x110x110, .f32⟩
  | 62 => ⟨S16x110x110, .f32⟩
  | 63 => ⟨S16x110x110, .f32⟩
  | 64 => ⟨S_, .f32⟩
  | 65 => ⟨S_, .f32⟩
  | 66 => ⟨S_, .f32⟩
  | 67 => ⟨S16x110x110, .f32⟩
  | 68 => ⟨S16x110x110, .f32⟩
  | 69 => ⟨S_, .f32⟩
  | 70 => ⟨S16x110x110, .f32⟩
  | 71 => ⟨S16x110x110, .f32⟩
  | 72 => ⟨S16x110x110, .f32⟩
  | 73 => ⟨S_, .f32⟩
  | 74 => ⟨S16x110x110, .f32⟩
  | 75 => ⟨S16x110x110, .f32⟩
  | 76 => ⟨S16x110x110, .f32⟩
  | 77 => ⟨S_, .f32⟩
  | 78 => ⟨S16x110x110, .f32⟩
  | 79 => ⟨S_, .f32⟩
  | 80 => ⟨S16x110x110, .f32⟩
  | 81 => ⟨S16x110x110, .f32⟩
  | 82 => ⟨S_, .f32⟩
  | 83 => ⟨S16x110x110, .f32⟩
  | 84 => ⟨S16x110x110, .f32⟩
  | 85 => ⟨S_, .f32⟩
  | 86 => ⟨S16x110x110, .f32⟩
  | 87 => ⟨S16x110x110, .f32⟩
  | 88 => ⟨S16x110x110, .f32⟩
  | 89 => ⟨S16x110x110, .f32⟩
  | 90 => ⟨S_, .f32⟩
  | 91 => ⟨S16x110x110, .f32⟩
  | 92 => ⟨S16x110x110, .f32⟩
  | 93 => ⟨S16x110x110, .f32⟩
  | 94 => ⟨S16x110x110, .f32⟩
  | 95 => ⟨S16x110x110, .f32⟩
  | 96 => ⟨S_, .f32⟩
  | 97 => ⟨S16x110x110, .f32⟩
  | 98 => ⟨S16x110x110, .f32⟩
  | 99 => ⟨S16x110x110, .f32⟩
  | 100 => ⟨S16x110x110, .f32⟩
  | 101 => ⟨S16x110x110, .f32⟩
  | 102 => ⟨S_, .f32⟩
  | 103 => ⟨S16x110x110, .f32⟩
  | 104 => ⟨S16x110x110, .f32⟩
  | 105 => ⟨S16x110x110, .f32⟩
  | 106 => ⟨S16x110x110, .f32⟩
  | 107 => ⟨S16x110x110, .f32⟩
  | 108 => ⟨S16x110x110, .f32⟩
  | 109 => ⟨S_, .f32⟩
  | 110 => ⟨S16x110x110, .f32⟩
  | 111 => ⟨S16x110x110, .f32⟩
  | 112 => ⟨S16x110x110, .f32⟩
  | 113 => ⟨S16x110x110, .f32⟩
  | 114 => ⟨S16x110x110, .f32⟩
  | 115 => ⟨S16x110x110, .f32⟩
  | 116 => ⟨S_, .f32⟩
  | 117 => ⟨S16x110x110, .f32⟩
  | 118 => ⟨S16x110x110, .f32⟩
  | 119 => ⟨S16x110x110, .f32⟩
  | 120 => ⟨S16x110x110, .f32⟩
  | 121 => ⟨S16x110x110, .f32⟩
  | 122 => ⟨S16x110x110, .f32⟩
  | 123 => ⟨S16x110x110, .f32⟩
  | 124 => ⟨S_, .f32⟩
  | 125 => ⟨S16x110x110, .f32⟩
  | 126 => ⟨S16x110x110, .f32⟩
  | 127 => ⟨S16x110x110, .f32⟩
  | _ => ⟨S16x110x300, .f32⟩

abbrev hbmTy0_1 (i : Nat) : BufTy := match i % 128 with
  | 0 => ⟨S16x110x110, .f32⟩
  | 1 => ⟨S_, .f32⟩
  | 2 => ⟨S16x110x110, .f32⟩
  | 3 => ⟨S16x110x110, .i1⟩
  | 4 => ⟨S_, .f32⟩
  | 5 => ⟨S16x110x110, .f32⟩
  | 6 => ⟨S16x110x110, .f32⟩
  | 7 => ⟨S16x110x110, .f32⟩
  | 8 => ⟨S_, .f32⟩
  | 9 => ⟨S16x110x110, .f32⟩
  | 10 => ⟨S16x110x110, .f32⟩
  | 11 => ⟨S_, .f32⟩
  | 12 => ⟨S16x110x110, .f32⟩
  | 13 => ⟨S16x110x110, .f32⟩
  | 14 => ⟨S_, .f32⟩
  | 15 => ⟨S_, .f32⟩
  | 16 => ⟨S16x110x110, .f32⟩
  | 17 => ⟨S16x110x110, .f32⟩
  | 18 => ⟨S_, .f32⟩
  | 19 => ⟨S16x110, .f32⟩
  | 20 => ⟨S16x110x1, .f32⟩
  | 21 => ⟨S16x110x1, .f32⟩
  | 22 => ⟨S_, .f32⟩
  | 23 => ⟨S16x110x1, .f32⟩
  | 24 => ⟨S16x110x1, .i1⟩
  | 25 => ⟨S_, .f32⟩
  | 26 => ⟨S_, .f32⟩
  | 27 => ⟨S16x110x1, .f32⟩
  | 28 => ⟨S16x110x1, .f32⟩
  | 29 => ⟨S16x110x110, .f32⟩
  | 30 => ⟨S16x110x110, .f32⟩
  | 31 => ⟨S_, .f32⟩
  | 32 => ⟨S_, .f32⟩
  | 33 => ⟨S16x110x110, .f32⟩
  | 34 => ⟨S16x110x110, .f32⟩
  | 35 => ⟨S16x110x110, .f32⟩
  | 36 => ⟨S_, .f32⟩
  | 37 => ⟨S16x110, .f32⟩
  | 38 => ⟨S16x110x1, .f32⟩
  | 39 => ⟨S_, .f32⟩
  | 40 => ⟨S16x110x1, .f32⟩
  | 41 => ⟨S16x110x1, .i1⟩
  | 42 => ⟨S_, .f32⟩
  | 43 => ⟨S16x110x1, .f32⟩
  | 44 => ⟨S16x110x1, .i1⟩
  | 45 => ⟨S_, .f32⟩
  | 46 => ⟨S_, .f32⟩
  | 47 => ⟨S16x110x1, .f32⟩
  | 48 => ⟨S16x110x1, .f32⟩
  | 49 => ⟨S16x110x110, .f32⟩
  | 50 => ⟨S16x110x110, .f32⟩
  | 51 => ⟨S_, .f32⟩
  | 52 => ⟨S_, .f32⟩
  | 53 => ⟨S16x110x110, .i1⟩
  | 54 => ⟨S16x110x110, .f32⟩
  | 55 => ⟨S16x110x110, .f32⟩
  | 56 => ⟨S16x110x40, .f32⟩
  | 57 => ⟨S_, .f32⟩
  | 58 => ⟨S16x110x40, .f32⟩
  | 59 => ⟨S16x110x40, .f32⟩
  | 60 => ⟨S_, .f32⟩
  | 61 => ⟨S16x110x40, .f32⟩
  | 62 => ⟨S16x110x40, .f32⟩
  | 63 => ⟨S16x110x40, .f32⟩
  | 64 => ⟨S16x110x40, .f32⟩
  | 65 => ⟨S16x110x40, .f32⟩
  | 66 => ⟨S16x110x40, .f32⟩
  | 67 => ⟨S_, .f32⟩
  | 68 => ⟨S16x110x40, .f32⟩
  | 69 => ⟨S16x110x40, .f32⟩
  | 70 => ⟨S_, .f32⟩
  | 71 => ⟨S16x110x40, .f32⟩
  | 72 => ⟨S16x110x40, .f32⟩
  | 73 => ⟨S16x110x40x300, .f32⟩
  | 74 => ⟨S16x110x40x1, .f32⟩
  | 75 => ⟨S16x110x40x300, .f32⟩
  | 76 => ⟨S16x110x40x300, .f32⟩
  | 77 => ⟨S16x40x110x110, .f32⟩
  | 78 => ⟨S16x110x110x40, .f32⟩
  | 79 => ⟨S16x110x40x300, .f32⟩
  | 80 => ⟨S_, .f32⟩
  | 81 => ⟨S16x110x40, .f32⟩
  | 82 => ⟨S16x110x40, .f32⟩
  | 83 => ⟨S_, .f32⟩
  | 84 => ⟨S16x110x40, .f32⟩
  | 85 => ⟨S16x110x40, .f32⟩
  | 86 => ⟨S16x110x40x300, .f32⟩
  | 87 => ⟨S_, .f32⟩
  | 88 => ⟨S16x110x40, .f32⟩
  | 89 => ⟨S16x110x40, .f32⟩
  | 90 => ⟨S_, .f32⟩
  | 91 => ⟨S16x110x40, .f32⟩
  | 92 => ⟨S16x110x40, .f32⟩
  | 93 => ⟨S16x1x110x40, .f32⟩
  | 94 => ⟨S16x110x1x40, .f32⟩
  | 95 => ⟨S16x110x110x40, .f32⟩
  | 96 => ⟨S16x110x110x40, .f32⟩
  | 97 => ⟨S16x110x110x40, .f32⟩
  | 98 => ⟨S16x110x110x40, .f32⟩
  | 99 => ⟨S16x110x110x40, .f32⟩
  | 100 => ⟨S_, .f32⟩
  | 101 => ⟨S16x110x110, .f32⟩
  | 102 => ⟨S_, .f32⟩
  | 103 => ⟨S16x110x110, .f32⟩
  | 104 => ⟨S16x110x110, .f32⟩
  | 105 => ⟨S_, .f32⟩
  | 106 => ⟨S_, .f32⟩
  | 107 => ⟨S16x110x110, .f32⟩
  | 108 => ⟨S16x110x110, .f32⟩
  | 109 => ⟨S_, .f32⟩
  | 110 => ⟨S16x110x110, .f32⟩
  | 111 => ⟨S16x110x110, .f32⟩
  | 112 => ⟨S_, .f32⟩
  | 113 => ⟨S16x110x110, .f32⟩
  | 114 => ⟨S16x110x110, .f32⟩
  | 115 => ⟨S16x110x110, .f32⟩
  | _ => ⟨S16x110x300, .f32⟩

abbrev hbmTy (i : Nat) : BufTy := match i / 128 with
  | 0 => hbmTy0_0 i
  | 1 => hbmTy0_1 i
  | _ => ⟨S16x110x300, .f32⟩

abbrev bufTy : (tb : Table) → Fin (tcTables nBuf tb) → BufTy
  | .hbm, ⟨i, _⟩ => hbmTy i
  | _, _ => ⟨S16x110x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_cst : Ref sig .tc := ⟨.hbm, 45, rfl⟩
abbrev main_call0_v1 : Ref sig .tc := ⟨.hbm, 46, rfl⟩
abbrev main_v34 : Ref sig .tc := ⟨.hbm, 47, rfl⟩
abbrev main_cst : Ref sig .tc := ⟨.hbm, 48, rfl⟩
abbrev main_v35 : Ref sig .tc := ⟨.hbm, 49, rfl⟩
abbrev main_v36 : Ref sig .tc := ⟨.hbm, 50, rfl⟩
abbrev main_call1_v0 : Ref sig .tc := ⟨.hbm, 51, rfl⟩
abbrev main_call1_cst : Ref sig .tc := ⟨.hbm, 52, rfl⟩
abbrev main_call1_v1 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_cst_4 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_14 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_15 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_16 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_18 : Ref sig .tc := ⟨.hbm, 136, rfl⟩
abbrev main_v98 : Ref sig .tc := ⟨.hbm, 137, rfl⟩
abbrev main_v99 : Ref sig .tc := ⟨.hbm, 138, rfl⟩
abbrev main_cst_19 : Ref sig .tc := ⟨.hbm, 139, rfl⟩
abbrev main_v100 : Ref sig .tc := ⟨.hbm, 140, rfl⟩
abbrev main_v101 : Ref sig .tc := ⟨.hbm, 141, rfl⟩
abbrev main_cst_20 : Ref sig .tc := ⟨.hbm, 142, rfl⟩
abbrev main_call4_v0 : Ref sig .tc := ⟨.hbm, 143, rfl⟩
abbrev main_call4_v1 : Ref sig .tc := ⟨.hbm, 144, rfl⟩
abbrev main_v102 : Ref sig .tc := ⟨.hbm, 145, rfl⟩
abbrev main_cst_21 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_22 : Ref sig .tc := ⟨.hbm, 150, rfl⟩
abbrev main_v106 : Ref sig .tc := ⟨.hbm, 151, rfl⟩
abbrev main_v107 : Ref sig .tc := ⟨.hbm, 152, rfl⟩
abbrev main_cst_23 : Ref sig .tc := ⟨.hbm, 153, rfl⟩
abbrev main_call5_v0 : Ref sig .tc := ⟨.hbm, 154, rfl⟩
abbrev main_call5_v1 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_24 : Ref sig .tc := ⟨.hbm, 159, rfl⟩
abbrev main_call6_v0 : Ref sig .tc := ⟨.hbm, 160, rfl⟩
abbrev main_call6_v1 : Ref sig .tc := ⟨.hbm, 161, rfl⟩
abbrev main_v111 : Ref sig .tc := ⟨.hbm, 162, rfl⟩
abbrev main_v112 : Ref sig .tc := ⟨.hbm, 163, rfl⟩
abbrev main_cst_25 : Ref sig .tc := ⟨.hbm, 164, rfl⟩
abbrev main_v113 : Ref sig .tc := ⟨.hbm, 165, rfl⟩
abbrev main_v114 : Ref sig .tc := ⟨.hbm, 166, rfl⟩
abbrev main_cst_26 : Ref sig .tc := ⟨.hbm, 167, rfl⟩
abbrev main_v115 : Ref sig .tc := ⟨.hbm, 168, rfl⟩
abbrev main_v116 : Ref sig .tc := ⟨.hbm, 169, rfl⟩
abbrev main_cst_27 : Ref sig .tc := ⟨.hbm, 170, rfl⟩
abbrev main_v117 : Ref sig .tc := ⟨.hbm, 171, rfl⟩
abbrev main_v118 : Ref sig .tc := ⟨.hbm, 172, rfl⟩
abbrev main_cst_28 : Ref sig .tc := ⟨.hbm, 173, rfl⟩
abbrev main_call7_v0 : Ref sig .tc := ⟨.hbm, 174, rfl⟩
abbrev main_call7_v1 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_29 : Ref sig .tc := ⟨.hbm, 179, rfl⟩
abbrev main_call8_v0 : Ref sig .tc := ⟨.hbm, 180, rfl⟩
abbrev main_call8_v1 : Ref sig .tc := ⟨.hbm, 181, rfl⟩
abbrev main_call8_v2 : Ref sig .tc := ⟨.hbm, 182, rfl⟩
abbrev main_v122 : Ref sig .tc := ⟨.hbm, 183, rfl⟩
abbrev main_v123 : Ref sig .tc := ⟨.hbm, 184, rfl⟩
abbrev main_cst_30 : Ref sig .tc := ⟨.hbm, 185, rfl⟩
abbrev main_v124 : Ref sig .tc := ⟨.hbm, 186, rfl⟩
abbrev main_v125 : Ref sig .tc := ⟨.hbm, 187, rfl⟩
abbrev main_cst_31 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_32 : Ref sig .tc := ⟨.hbm, 195, rfl⟩
abbrev main_v132 : Ref sig .tc := ⟨.hbm, 196, rfl⟩
abbrev main_v133 : Ref sig .tc := ⟨.hbm, 197, rfl⟩
abbrev main_cst_33 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_call9_v0 : Ref sig .tc := ⟨.hbm, 207, rfl⟩
abbrev main_call9_cst : Ref sig .tc := ⟨.hbm, 208, rfl⟩
abbrev main_call9_v1 : Ref sig .tc := ⟨.hbm, 209, rfl⟩
abbrev main_v142 : Ref sig .tc := ⟨.hbm, 210, rfl⟩
abbrev main_cst_34 : Ref sig .tc := ⟨.hbm, 211, rfl⟩
abbrev main_v143 : Ref sig .tc := ⟨.hbm, 212, rfl⟩
abbrev main_v144 : Ref sig .tc := ⟨.hbm, 213, rfl⟩
abbrev main_call10_v0 : Ref sig .tc := ⟨.hbm, 214, rfl⟩
abbrev main_call10_cst : Ref sig .tc := ⟨.hbm, 215, rfl⟩
abbrev main_call10_v1 : Ref sig .tc := ⟨.hbm, 216, rfl⟩
abbrev main_v145 : Ref sig .tc := ⟨.hbm, 217, rfl⟩
abbrev main_cst_35 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_36 : Ref sig .tc := ⟨.hbm, 228, rfl⟩
abbrev main_v155 : Ref sig .tc := ⟨.hbm, 229, rfl⟩
abbrev main_cst_37 : Ref sig .tc := ⟨.hbm, 230, rfl⟩
abbrev main_v156 : Ref sig .tc := ⟨.hbm, 231, rfl⟩
abbrev main_v157 : Ref sig .tc := ⟨.hbm, 232, rfl⟩
abbrev main_cst_38 : Ref sig .tc := ⟨.hbm, 233, rfl⟩
abbrev main_call11_v0 : Ref sig .tc := ⟨.hbm, 234, rfl⟩
abbrev main_call11_v1 : Ref sig .tc := ⟨.hbm, 235, rfl⟩
abbrev main_v158 : Ref sig .tc := ⟨.hbm, 236, rfl⟩
abbrev main_cst_39 : Ref sig .tc := ⟨.hbm, 237, rfl⟩
abbrev main_v159 : Ref sig .tc := ⟨.hbm, 238, rfl⟩
abbrev main_v160 : Ref sig .tc := ⟨.hbm, 239, rfl⟩
abbrev main_cst_40 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩

abbrev nD : Nat := 1
abbrev τ : Topo := Topo.v7x

variable {F : FTy → Type} [FloatOps F]
-- ==== Proof.Block.lean ====
/- What one grid point of the attention kernel leaves in its output block, as one pure function of the blocks it reads. -/
module

public import proofs.«01_k».proof.Proof.Gen.KernelIdeal.Frame
public import Idealize.ShloMosaic.Lib.Pipeline.ValueKit

@[expose] public section

noncomputable section

namespace Cert.Att

open Idealize.ShloMosaic Idealize.ShloMosaic.TcCoe
open Idealize.SL Idealize.SL.Sem
open Cert.KernelIdeal Cert.KernelIdeal.Gen

variable {F : FTy → Type} [FloatOps F]

/-- The float zero word the accumulation starts from. -/
abbrev zeroF : F .f32 := Scalar.ofBits .f32 0x00000000#32

/-- The forty-fold accumulation over the concepts, added to what the output block held. -/
def accum (x : Vec F S1x110x40x300 .f32) (w : Vec F S300x300 .f32) (a : Vec F S1x1x40x110 .f32)
    (cur : Vec F S1x110x110 .f32) : FVec F S1x110x110 .f32 :=
  let k := k0_pay11 x
  let c := k0_pay12 x w
  let p := k0_pay13 x w a
  let u := k0_pay14 x
  let s0 := k0_pay15 k c p u zeroF
  let s1 := k0_pay18 k c p u s0 (k0_pay16 k) (k0_pay17 c)
  let s2 := k0_pay20 k c p u s1 (k0_pay19 k c)
  let s3 := k0_pay24 k c p u s2 (k0_pay21 k c) (k0_pay22 p) (k0_pay23 u)
  let s4 := k0_pay26 k c p u s3 (k0_pay25 k)
  let s5 := k0_pay29 k c p u s4 (k0_pay27 k) (k0_pay28 c) (constant S110x110 .f32 0x00000000#32)
  let s6 := k0_pay33 k c p u s5 (k0_pay30 k c) (k0_pay31 p) (k0_pay32 u)
  let s7 := k0_pay35 k c p u s6 (k0_pay34 k c p u)
  let s8 := k0_pay38 k c p u s7 (k0_pay36 k) (k0_pay37 c)
  k0_pay2 k c p u s8 (k0_pay39 k c) cur

/-- The whole block: the semantic half from the node features, the conceptual half from the accumulation. -/
def block (f : Vec F S1x110x300 .f32) (x : Vec F S1x110x40x300 .f32) (a : Vec F S1x1x40x110 .f32)
    (w w' : Vec F S300x300 .f32) (n : Elt F .i32) : FVec F S1x110x110 .f32 :=
  let cs := k0_pay4 f w
  let ab := k0_pay5 f w
  let h := k0_pay6 f w
  let e : F .f32 := Scalar.ofBits .f32 0x3DB63A9E#32
  k0_pay3 (k0_pay7 cs ab h e) (k0_pay8 n) (k0_pay9 cs ab h e n) (k0_pay10 cs ab h e n) zeroF (accum x w' a k0_pay1)

/-- Reading back through the whole block gives the payload of the store made last. -/
theorem readCov_last {Val : EltTy → Type} [∀ e, Nonempty (Val e)] {S : Shape} {e : EltTy} {sig : RefSig} {κ : Kind} {sp : Space}
    (v : View sig κ sp S e) {off : Fin S.rank → ℕ} (h : off = fun _ => 0) (inb : ∀ a, off a + S.size a ≤ S.size a)
    (w : S.Idx → Val e) (L : List (View.Piece Val S e)) :
    v.readCov (⟨Rect.unit off S.size inb, w⟩ :: L) (Rect.unit off S.size inb).toLoadRect = w :=
  View.readCov_cons_unit_lit' v inb inb w L (fun a => congrFun h a) (fun a => congrFun h a)

theorem hz2 : (![0, 0] : Fin 2 → ℕ) = fun _ => 0 := by decide
theorem hz3 : (![0, 0, 0] : Fin 3 → ℕ) = fun _ => 0 := by decide
theorem hz4 : (![0, 0, 0, 0] : Fin 4 → ℕ) = fun _ => 0 := by decide

/-- The place of a grid point's batch in the table of text lengths. -/
def tableAt (i : grid0.Coords) : S16.Idx
  | ⟨0, _⟩ => ⟨(i 0).val, (i 0).isLt⟩

/-- The word of the table the kernel body reads at a grid point. -/
def tableWord {c : Dev nD} (i : grid0.Coords) (hc1 : cond0_1 i) (f : TbBuf0 (F := F) c tbM0_0) : Elt F .i32 :=
  View.ld (View.read (Elt F) (View.whole main_arg1) f) (Rect.unit (s := S16) (k0_off1 i) S1.size (k0_off1_inb i hc1))
    (Shape.Idx.first (numel1_S1.symm ▸ Nat.one_pos))

theorem tableWord_eq {c : Dev nD} (i : grid0.Coords) (hc1 : cond0_1 i) (f : TbBuf0 (F := F) c tbM0_0) :
    tableWord i hc1 f = f (tableAt i) := by
  unfold tableWord
  refine congrArg f (funext fun (a : Fin 1) => Fin.ext ?_)
  have ha : a = 0 := Subsingleton.elim _ _
  subst ha
  generalize Shape.Idx.first _ = x
  have h : (x 0 : ℕ) = 0 := Nat.lt_one_iff.mp (x 0).isLt
  have h16 : (i 0).val < 16 := (i 0).isLt
  refine (Rect.idx_unit_val _ _ _ x 0).trans ?_
  rw [h]
  show (BitVec.ofNat 32 (i 0).val).toNat + 0 = (i 0).val
  rw [BitVec.toNat_ofNat]
  omega

/-- The contents the kernel body leaves in its output block are `block` of what it reads. -/
theorem out_eq (c : Dev nD) (i : grid0.Coords) (arg3 : Memref sig .tc .vmem S1x110x300 .f32) (harg3 : arg3.IsWhole) (arg4 : Memref sig .tc .vmem S1x110x40x300 .f32) (harg4 : arg4.IsWhole) (arg5 : Memref sig .tc .vmem S1x1x40x110 .f32) (harg5 : arg5.IsWhole) (arg6 : Memref sig .tc .vmem S300x300 .f32) (harg6 : arg6.IsWhole) (arg7 : Memref sig .tc .vmem S300x300 .f32) (harg7 : arg7.IsWhole) (arg8 : Memref sig .tc .vmem S1x110x110 .f32) (harg8 : arg8.IsWhole) (hc0 : cond0_0 i) (hc1 : cond0_1 i)
    (x0 : Vec F S1x110x300 .f32) (x1 : Vec F S1x110x40x300 .f32) (x2 : Vec F S1x1x40x110 .f32) (x3 : Vec F S300x300 .f32) (x4 : Vec F S300x300 .f32) (xt0 : TbBuf0 (F := F) c tbM0_0) :
    out0_A_5 c i arg3 harg3 arg4 harg4 arg5 harg5 arg6 harg6 arg7 harg7 arg8 harg8 hc0 hc1 x0 x1 x2 x3 x4 xt0 = block x0 x1 x2 x3 x4 (tableWord i hc1 xt0) := by
  unfold out0_A_5
  rw [View.read_writes_eq_canon _ _ _ (cover0_A_5 c i arg3 harg3 arg4 harg4 arg5 harg5 arg6 harg6 arg7 harg7 arg8 harg8 hc0 hc1 x0 x1 x2 x3 x4 xt0)]
  unfold kernelRun0_A
  dsimp only
  sl_unfold_words
  rw [View.canon_cons_unit_zero (S := S1x110x110) hz3]
  simp only [View.readAt_eq_ld, Memref.IsWhole.read_unread]
  rw [View.ld_unit_zero (S := S1x110x300) hz3, View.ld_unit_zero (S := S1x110x40x300) hz4, View.ld_unit_zero (S := S1x1x40x110) hz4]
  rw [readCov_last (S := S1x110x110) _ hz3]
  rw [readCov_last (S := S1x110x110) _ hz3]
  rw [View.ld_unit_zero (S := S300x300) hz2, View.ld_unit_zero (S := S300x300) hz2]
  unfold block accum zeroF
  dsimp only
  rfl

end Cert.Att

end
-- ==== Proof.KernelValue.lean ====
/- The array the attention kernel leaves: `kernelOut` of its arguments. -/
module

public import proofs.«01_k».proof.Proof.Block
public import Idealize.ShloMosaic.Lib.Pipeline.Covers
public import Idealize.ShloMosaic.Lib.Claim
public import Idealize.ShloMosaic.Lib.Pointwise

@[expose] public section

set_option maxRecDepth 16384

noncomputable section

namespace Cert.Att

open Idealize.ShloMosaic Idealize.ShloMosaic.TcCoe
open Idealize.SL Idealize.SL.Sem
open Idealize.ShloMosaic.Pipeline (Dat)
open Cert.KernelIdeal Cert.KernelIdeal.Gen

/-- Batch `b` of the node features, as a block. -/
def featBlk (X : FVec Ideal S16x110x300 .f32) (b : Fin 16) : Vec Ideal S1x110x300 .f32 := fun y => X (ix3 b (y 1) (y 2))
/-- Batch `b` of the knowledge array, as a block. -/
def knowBlk (X : FVec Ideal S16x110x40x300 .f32) (b : Fin 16) : Vec Ideal S1x110x40x300 .f32 := fun y => X (ix4 b (y 1) (y 2) (y 3))
/-- Batch `b` of the affect weights, concept axis first, as a block. -/
def affBlk (X : FVec Ideal S16x110x40x1 .f32) (b : Fin 16) : Vec Ideal S1x1x40x110 .f32 := fun y => X (ix4 b (y 3) (y 2) 0)

/-- What the kernel computes of its argument arrays. -/
def kernelOut (x : FVec Ideal S16x110x300 .f32) (n : IVec S16 32) (k : FVec Ideal S16x110x40x300 .f32)
    (a : FVec Ideal S16x110x40x1 .f32) (w w' : FVec Ideal S300x300 .f32) : FVec Ideal S16x110x110 .f32 := fun j =>
  block (featBlk x (j 0)) (knowBlk k (j 0)) (affBlk a (j 0)) w w' (n (ix1 (j 0))) (ix3 0 (j 1) (j 2))

theorem ok (m : (ℓ : Loc nD τ sig) → Buf (Elt Ideal) ℓ) : Ok m := by unfold Ok ok0; trivial

/-- Every point works on the batch of its own number. -/
theorem coords0 : ∀ t : Fin grid0.N, (grid0.coords t 0).val = t.val := by decide +kernel

variable (m : (ℓ : Loc nD τ sig) → Buf (Elt Ideal) ℓ)

theorem idx (t : Fin (cfgM m (ok m)).N) :
    ((cfgM m (ok m)).win 0).index t = ![t.val, 0, 0] ∧ ((cfgM m (ok m)).win 1).index t = ![t.val, 0, 0, 0]
    ∧ ((cfgM m (ok m)).win 2).index t = ![t.val, 0, 0, 0] ∧ ((cfgM m (ok m)).win 3).index t = ![0, 0]
    ∧ ((cfgM m (ok m)).win 4).index t = ![0, 0] ∧ ((cfgM m (ok m)).win 5).index t = ![t.val, 0, 0] :=
  (by decide +kernel : ∀ t : Fin grid0.N, cc0_transform_0 (grid0.coords t) = ![t.val, 0, 0] ∧ cc0_transform_1 (grid0.coords t) = ![t.val, 0, 0, 0]
    ∧ cc0_transform_2 (grid0.coords t) = ![t.val, 0, 0, 0] ∧ cc0_transform_3 (grid0.coords t) = ![0, 0]
    ∧ cc0_transform_4 (grid0.coords t) = ![0, 0] ∧ cc0_transform_5 (grid0.coords t) = ![t.val, 0, 0]) t

/-- The batch of a point. -/
def batch (t : Fin (cfgM m (ok m)).N) : Fin 16 := ⟨t.val, lt_of_lt_of_eq t.isLt N_0⟩

theorem blk0 (c : Dev nD) (t : Fin (cfgM m (ok m)).N) :
    iblk m (ok m) c 0 t = featBlk (m ((c : Thread nD τ).loc main_arg0)) (batch m t) := by
  funext y
  unfold featBlk batch
  blk_ext [iblk, V, idx m t]

theorem blk1 (c : Dev nD) (t : Fin (cfgM m (ok m)).N) :
    iblk m (ok m) c 1 t = knowBlk (m ((c : Thread nD τ).loc main_arg2)) (batch m t) := by
  funext y
  unfold knowBlk batch
  blk_ext [iblk, V, idx m t]

theorem blk3 (c : Dev nD) (t : Fin (cfgM m (ok m)).N) :
    iblk m (ok m) c 3 t = m ((c : Thread nD τ).loc main_arg5) := by
  blk_ext! [iblk, V, idx m t]

theorem blk4 (c : Dev nD) (t : Fin (cfgM m (ok m)).N) :
    iblk m (ok m) c 4 t = m ((c : Thread nD τ).loc main_arg6) := by
  blk_ext! [iblk, V, idx m t]

/-- The host's part: the affect weights with the concept axis first. -/
theorem V_aff (c : Dev nD) : (V m c main_v2 : FVec Ideal S16x1x40x110 .f32)
    = fun y => (m ((c : Thread nD τ).loc main_arg3) : FVec Ideal S16x110x40x1 .f32) (ix4 (y 0) (y 3) (y 2) 0) := by
  have h : V m c main_v2 = shapeCast S16x1x40x110 (transpose S16x40x110 [0, 2, 1] (shapeCast S16x110x40 (m ((c : Thread nD τ).loc main_arg3)) shapeCasts_S16x110x40x1_S16x110x40) transposes_S16x110x40_S16x40x110_0_2_1) shapeCasts_S16x40x110_S16x1x40x110 := by
    entry_read
    rfl
  rw [h]
  funext y
  pointwise

theorem blk2 (c : Dev nD) (t : Fin (cfgM m (ok m)).N) :
    iblk m (ok m) c 2 t = affBlk (m ((c : Thread nD τ).loc main_arg3)) (batch m t) := by
  funext y
  unfold affBlk batch iblk
  blk_simp
  refine (congrFun (V_aff m c) _).trans ?_
  blk_ext [idx m t]

theorem outs (c : Dev nD) (t : Fin (cfgM m (ok m)).N) : outsAt0 m (ok m) c t
    = block (featBlk (m ((c : Thread nD τ).loc main_arg0)) (batch m t)) (knowBlk (m ((c : Thread nD τ).loc main_arg2)) (batch m t))
      (affBlk (m ((c : Thread nD τ).loc main_arg3)) (batch m t)) (m ((c : Thread nD τ).loc main_arg5)) (m ((c : Thread nD τ).loc main_arg6))
      ((m ((c : Thread nD τ).loc main_arg1) : IVec S16 32) (ix1 (batch m t))) := by
  unfold outsAt0
  refine (out_eq ..).trans ?_
  have h1 : (tbl m 0 : IVec S16 32) (tableAt (grid0.coords t)) = (m ((c : Thread nD τ).loc main_arg1) : IVec S16 32) (ix1 (batch m t)) := by
    obtain rfl : c = 0 := Subsingleton.elim _ _
    show V m 0 main_arg1 _ = _
    rw [V_main_arg1]
    refine congrArg _ ?_
    funext d
    match d with | ⟨0, _⟩ => exact Fin.ext (coords0 t)
  exact congr (congr (congr (congr (congr (congrArg block (blk0 m c t)) (blk1 m c t)) (blk2 m c t)) (blk3 m c t)) (blk4 m c t)) ((tableWord_eq ..).trans h1)

theorem final (c : Dev nD) : (dats m (ok m) 0 c).arrAt 5 (cfgM m (ok m)).N
    = kernelOut (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg6)) := by
  refine (dats m (ok m) 0 c).arrAt_eq_of_covers 5 _ ?_ fun t _ y => ?_
  · refine Pipeline.Window.covers_of_index_surj _ rfl (show ∀ a : Fin 3, 0 < S1x110x110.size a by decide) ?_
    intro β
    have hβ : (β (0 : Fin 3)).val < 16 := lt_of_lt_of_eq (β (0 : Fin 3)).isLt (by show Pipeline.Window.nblk _ _ = _; simp [Pipeline.Window.nblk])
    refine ⟨⟨(β (0 : Fin 3)).val, lt_of_lt_of_eq hβ N_0.symm⟩, fun a => ?_⟩
    rw [(idx m _).2.2.2.2.2]
    have h1 : (β (1 : Fin 3)).val < 1 := lt_of_lt_of_eq (β (1 : Fin 3)).isLt (by show Pipeline.Window.nblk _ _ = _; simp [Pipeline.Window.nblk])
    have h2 : (β (2 : Fin 3)).val < 1 := lt_of_lt_of_eq (β (2 : Fin 3)).isLt (by show Pipeline.Window.nblk _ _ = _; simp [Pipeline.Window.nblk])
    match a with
    | ⟨0, _⟩ => rfl
    | ⟨1, _⟩ => exact (Nat.lt_one_iff.mp h1).symm
    | ⟨2, _⟩ => exact (Nat.lt_one_iff.mp h2).symm
  · blk_simp
    rw [after0_5]
    refine (congrFun (outs m c t) y).trans ?_
    have e : (((cfgM m (ok m)).win 5).blk t).view.emb y = (ix3 (batch m t) (y (1 : Fin 3)) (y (2 : Fin 3)) : S16x110x110.Idx) := by
      unfold batch
      blk_ext [idx m t]
    refine Eq.trans ?_ (congrArg (kernelOut _ _ _ _ _ _) e.symm)
    exact congrArg _ (by blk_ext)

end Cert.Att

end
-- ==== Proof.Spec.lean ====
/- The scalar functions both programs are made of, over the extended reals: one conversation at a time, entry by entry. -/
module

public import Idealize.ShloMosaic.PureOps.Ideal

@[expose] public section

noncomputable section

namespace Cert.Att

open Idealize.ShloMosaic

/-- The value of a float literal: the rational of its word. -/
abbrev lit (b : BitVec 32) : EReal := Ideal.ofBits .f32 b

/-- The length of a vector, kept away from zero. -/
def norm {n : ℕ} (v : Fin n → EReal) : EReal := max (Ideal.sqrt (∑ d, v d * v d)) (lit 0x322BCC77#32)

/-- The clipped cosine of node `j`'s features and node `k`'s projected features. -/
def cosine (f : Fin 110 → Fin 300 → EReal) (w : Fin 300 → Fin 300 → EReal) (j k : Fin 110) : EReal :=
  min (lit 0x3F7FFFEF#32) (max (lit 0xBF7FFFEF#32)
    (Ideal.div (∑ x, f j x * ∑ y, f k y * w x y) (norm (f j) * norm (fun x => ∑ y, f k y * w x y))))

/-- Whether node `k` lies in node `j`'s window of a conversation of `n` nodes. -/
def inside (n : BitVec 32) (j k : Fin 110) : BitVec 1 :=
  IntOp.andi
    (IntOp.andi
      (IntOp.andi (IntOp.cmpi .sge (BitVec.ofNat 32 k) (IntOp.subi (BitVec.ofNat 32 j) 10#32))
        (IntOp.cmpi .sle (BitVec.ofNat 32 k) (IntOp.addi (BitVec.ofNat 32 j) 10#32)))
      (IntOp.cmpi .slt (BitVec.ofNat 32 j) n))
    (IntOp.cmpi .sle (BitVec.ofNat 32 k) (IntOp.subi n 1#32))

/-- The angular score of a cosine `c`, the polynomial `p` standing for `arccos m / sqrt (1 - m)`. -/
def score (p : EReal → EReal) (c : EReal) : EReal :=
  1 - Ideal.div
    (if 0 ≤ c then Ideal.sqrt (1 - FloatOps.absf (F := Ideal) (φ := .f32) c) * p (FloatOps.absf (F := Ideal) (φ := .f32) c)
      else lit 0x40490FDB#32 - Ideal.sqrt (1 - FloatOps.absf (F := Ideal) (φ := .f32) c) * p (FloatOps.absf (F := Ideal) (φ := .f32) c))
    (lit 0x40490FDB#32)

/-- The polynomial in ascending powers, as the reference sums it. -/
def powers (m : EReal) : EReal :=
  0 + lit 0x3FC90FDA#32 * 1 + lit 0xBE5BBFCA#32 * m + lit 0x3DB63A9E#32 * (m * m) + lit 0xBD4D8392#32 * (m * m * m)
    + lit 0x3CFD10F8#32 * (m * m * (m * m)) + lit 0xBC8BFC66#32 * (m * (m * m * (m * m)))
    + lit 0x3BDA90C5#32 * (m * m * (m * m * (m * m))) + lit 0xBAA57A2C#32 * (m * (m * m) * (m * m * (m * m)))

/-- The same polynomial by nested multiplication, as the kernel evaluates it. -/
def horner (m : EReal) : EReal :=
  ((((((lit 0xBAA57A2C#32 * m + lit 0x3BDA90C5#32) * m + lit 0xBC8BFC66#32) * m + lit 0x3CFD10F8#32) * m
    + lit 0xBD4D8392#32) * m + lit 0x3DB63A9E#32) * m + lit 0xBE5BBFCA#32) * m + lit 0x3FC90FDA#32

/-- The largest score inside the window. -/
def peak (m : Fin 110 → BitVec 1) (s : Fin 110 → EReal) : EReal :=
  Finset.fold max (lit 0xFF800000#32) (fun x => Scalar.select (m x) (s x) (lit 0xFF800000#32)) Finset.univ

/-- The peak where it is finite, otherwise zero: what the scores are shifted by. -/
def shift (p : EReal) : EReal :=
  if FloatOps.absf (F := Ideal) (φ := .f32) p < lit 0x7F800000#32 then p else 0

/-- One shifted exponential of a row. -/
def expo (m : Fin 110 → BitVec 1) (s : Fin 110 → EReal) (k : Fin 110) : EReal :=
  Ideal.exp (Scalar.select (m k) (s k - shift (peak m s)) (lit 0xF149F2CA#32))

/-- The softmax of a row over its window. -/
def soft (m : Fin 110 → BitVec 1) (s : Fin 110 → EReal) (k : Fin 110) : EReal :=
  if 0 < ∑ x, expo m s x then Ideal.div (expo m s k) (if 0 < ∑ x, expo m s x then ∑ x, expo m s x else 1) else 0

/-- The affect weight of a valence from its square distance terms `a` (valence less a half) and `h` (half the valence). -/
def affect (a h : EReal) : EReal :=
  Ideal.div (Ideal.sqrt (a * a + h * h) - lit 0x3D8471B4#32) (lit 0x3F1B8306#32)

/-- One concept's weight as the kernel computes it: the dot product of the unscaled vectors times two reciprocals. -/
def termK {n : ℕ} (v c : Fin n → EReal) (a : EReal) : EReal :=
  FloatOps.absf (F := Ideal) (φ := .f32) (∑ d, v d * c d)
    * (Ideal.div (FloatOps.absf (F := Ideal) (φ := .f32) a)
        (max (FloatOps.absf (F := Ideal) (φ := .f32) a * Ideal.sqrt (∑ d, c d * c d)) (lit 0x322BCC77#32))
      * Ideal.div 1 (norm v))

/-- One concept's weight as the reference states it: the cosine of the concept and the scaled projection. -/
def termR {n : ℕ} (v c : Fin n → EReal) (a : EReal) : EReal :=
  FloatOps.absf (F := Ideal) (φ := .f32)
    (Ideal.div (∑ d, v d * (c d * a)) (norm (fun d => c d * a) * norm v))

end Cert.Att

end
-- ==== Proof.KernelPoint.lean ====
/- What the kernel body leaves at one entry of its output block: the scalar functions of Spec. -/
module

public import proofs.«01_k».proof.Proof.Block
public import proofs.«01_k».proof.Proof.Spec
public import Idealize.ShloMosaic.Lib.Pointwise

@[expose] public section

set_option maxRecDepth 16384

noncomputable section

namespace Cert.Att

open Idealize.ShloMosaic Idealize.ShloMosaic.TcCoe
open Cert.KernelIdeal Cert.KernelIdeal.Gen

/-- The clipped cosines. -/
theorem pay4_at (f : Vec Ideal S1x110x300 .f32) (w : Vec Ideal S300x300 .f32) (j k : Fin 110) :
    k0_pay4 f w (ix2 j k) = cosine (fun j x => f (ix3 0 j x)) (fun x y => w (ix2 x y)) j k := by
  pointwise [k0_pay4]
  rfl

/-- The scores, the polynomial nested. -/
theorem pay7_at (f : Vec Ideal S1x110x300 .f32) (w : Vec Ideal S300x300 .f32) (j k : Fin 110) :
    k0_pay7 (k0_pay4 f w) (k0_pay5 f w) (k0_pay6 f w) (lit 0x3DB63A9E#32) (ix2 j k)
      = score horner (cosine (fun j x => f (ix3 0 j x)) (fun x y => w (ix2 x y)) j k) := by
  rw [← pay4_at]
  pointwise [k0_pay7, k0_pay5, k0_pay6]
  rfl

/-- The window. -/
theorem pay8_at (n : Elt Ideal .i32) (j k : Fin 110) : k0_pay8 (F := Ideal) n (ix2 j k) = inside n j k := by
  pointwise [k0_pay8]
  rfl

/-- A sum over the forty concepts, written out from the left. -/
theorem sum_forty (z : EReal) (t : Fin 40 → EReal) :
    z + ∑ n, t n = z + (t 0 + t 1 + t 2 + t 3 + t 4 + t 5 + t 6 + t 7 + t 8 + t 9 + t 10 + t 11 + t 12 + t 13 + t 14 + t 15 + t 16 + t 17 + t 18 + t 19 + t 20 + t 21 + t 22 + t 23 + t 24 + t 25 + t 26 + t 27 + t 28 + t 29 + t 30 + t 31 + t 32 + t 33 + t 34 + t 35 + t 36 + t 37 + t 38 + t 39) := by
  simp only [Fin.sum_univ_castSucc, Fin.sum_univ_zero, zero_add]
  rfl

/-- The accumulation: the sum of the concepts' terms. -/
theorem accum_at (x : Vec Ideal S1x110x40x300 .f32) (w : Vec Ideal S300x300 .f32) (a : Vec Ideal S1x1x40x110 .f32) (j k : Fin 110) :
    accum x w a (k0_pay1 (F := Ideal)) (ix3 0 j k)
      = ∑ n : Fin 40, termK (fun d => x (ix4 0 j n d)) (fun d => ∑ e, x (ix4 0 k n e) * w (ix2 e d))
          (affect (a (ix4 0 0 n k) - lit 0x3F000000#32) (lit 0x3F000000#32 * a (ix4 0 0 n k))) := by
  have hc : ∀ (n : Fin 40) (j : Fin 110) (d : Fin 300), k0_pay12 x w (ix3 n j d) = ∑ e, x (ix4 0 j n e) * w (ix2 e d) := by
    intro n j d
    pointwise [k0_pay12, k0_pay11]
  have hk : ∀ (n : Fin 40) (j : Fin 110) (d : Fin 300), k0_pay11 x (ix3 n j d) = x (ix4 0 j n d) := by
    intro n j d
    pointwise [k0_pay11]
  have ht : ∀ n : Fin 40, FloatOps.absf (F := Ideal) (φ := .f32) (∑ d, k0_pay11 x (ix3 n j d) * k0_pay12 x w (ix3 n k d))
      * (k0_pay13 x w a (ix2 n k) * k0_pay14 x (ix2 j n))
      = termK (fun d => x (ix4 0 j n d)) (fun d => ∑ e, x (ix4 0 k n e) * w (ix2 e d))
          (affect (a (ix4 0 0 n k) - lit 0x3F000000#32) (lit 0x3F000000#32 * a (ix4 0 0 n k))) := by
    intro n
    pointwise [k0_pay13, k0_pay14]
    simp only [hc, hk]
    rfl
  rw [← Finset.sum_congr rfl fun n _ => ht n, ← zero_add (Finset.sum _ _), sum_forty]
  pointwise [accum, k0_pay1, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay2, zeroF]

/-- A selection by a test for an infinity is a selection by a test for finiteness. -/
theorem select_inf (p : EReal) :
    Scalar.select (BitVec.ofBool (decide (FloatOps.absf (F := Ideal) (φ := .f32) p = lit 0x7F800000#32))) (0 : EReal) p = shift p := by
  have hinf : lit 0x7F800000#32 = ⊤ := by simp [lit, Ideal.ofBits, Ideal.ieee]
  unfold shift
  rw [hinf]
  by_cases h : FloatOps.absf (F := Ideal) (φ := .f32) p = ⊤
  · rw [if_neg (by rw [h]; exact lt_irrefl _), h]
    simp [Scalar.select]
  · rw [if_pos (lt_top_iff_ne_top.2 h), decide_eq_false h]
    simp [Scalar.select]

/-- One entry of the block. -/
theorem block_at (f : Vec Ideal S1x110x300 .f32) (x : Vec Ideal S1x110x40x300 .f32) (a : Vec Ideal S1x1x40x110 .f32)
    (w w' : Vec Ideal S300x300 .f32) (n : Elt Ideal .i32) (j k : Fin 110) :
    block f x a w w' n (ix3 0 j k)
      = lit 0x3F000000#32
          * soft (inside n j) (fun k => score horner (cosine (fun j x => f (ix3 0 j x)) (fun x y => w (ix2 x y)) j k)) k
        + Scalar.select (inside n j k) (lit 0x40A00000#32
          * ∑ n : Fin 40, termK (fun d => x (ix4 0 j n d)) (fun d => ∑ e, x (ix4 0 k n e) * w' (ix2 e d))
              (affect (a (ix4 0 0 n k) - lit 0x3F000000#32) (lit 0x3F000000#32 * a (ix4 0 0 n k)))) 0 := by
  have hp : k0_pay9 (k0_pay4 f w) (k0_pay5 f w) (k0_pay6 f w) (lit 0x3DB63A9E#32) n (ix2 j 0)
      = peak (inside n j) (fun k => score horner (cosine (fun j x => f (ix3 0 j x)) (fun x y => w (ix2 x y)) j k)) := by
    pointwise [k0_pay9]
    simp only [pay7_at, pay8_at]
    rfl
  have hi : k0_pay10 (k0_pay4 f w) (k0_pay5 f w) (k0_pay6 f w) (lit 0x3DB63A9E#32) n (ix2 j 0)
      = BitVec.ofBool (decide (FloatOps.absf (F := Ideal) (φ := .f32) (peak (inside n j) (fun k => score horner (cosine (fun j x => f (ix3 0 j x)) (fun x y => w (ix2 x y)) j k))) = lit 0x7F800000#32)) := by
    rw [← hp]
    pointwise [k0_pay10]
  unfold block
  pointwise [k0_pay3]
  simp only [pay7_at, pay8_at, accum_at, hp, hi]
  simp only [select_inf]
  rfl

end Cert.Att

end
-- ==== Proof.ReferencePoint.lean ====
/- What the reference leaves at one entry of its result: the scalar functions of Spec. -/
module

public import proofs.«01_k».proof.Proof.Gen.ReferenceIdeal.Run
public import proofs.«01_k».proof.Proof.Spec
public import Idealize.ShloMosaic.Lib.Pointwise

@[expose] public section

set_option maxRecDepth 16384

noncomputable section

namespace Cert.Att

open Idealize.ShloMosaic Idealize.ShloMosaic.TcCoe
open Idealize.SL Idealize.SL.Sem
open Cert.ReferenceIdeal Cert.ReferenceIdeal.Gen Cert.ReferenceIdeal.Value

variable (V : Valuation τ sig (Elt Ideal))

/-- The reference's result as its operations compose it. -/
def refOut : FVec Ideal S16x110x110 .f32 :=
  addf (mulf (broadcastInDim S16x110x110 ![] bcast_S_S16x110x110 (constant S_ .f32 0x3F000000#32)) (select (broadcastInDim S16x110x110 ![0, 1, 2] bcast_S16x110x1_S16x110x110_0_1_2 (cmpf .ogt (res_main_v114 V) (broadcastInDim S16x110x1 ![] bcast_S_S16x110x1 (constant S_ .f32 0x00000000#32)))) (Host.divf (res_main_v112 V) (broadcastInDim S16x110x110 ![0, 1, 2] bcast_S16x110x1_S16x110x110_0_1_2 (select (cmpf .ogt (res_main_v114 V) (broadcastInDim S16x110x1 ![] bcast_S_S16x110x1 (constant S_ .f32 0x00000000#32))) (res_main_v114 V) (broadcastInDim S16x110x1 ![] bcast_S_S16x110x1 (id (constant S_ .f32 0x3F800000#32)))))) (broadcastInDim S16x110x110 ![] bcast_S_S16x110x110 (id (constant S_ .f32 0x00000000#32))))) (mulf (broadcastInDim S16x110x110 ![] bcast_S_S16x110x110 (constant S_ .f32 0x3F000000#32)) (select (res_main_v31 V) (mulf (broadcastInDim S16x110x110 ![] bcast_S_S16x110x110 (constant S_ .f32 0x41200000#32)) (Host.reduceAdd (Host.absf (Host.divf (transpose S16x110x110x40 [0, 2, 3, 1] (Host.dotGeneral (φ₁ := .f32) (φ₂ := .f32) dot_S16x110x40x300_S16x110x40x300_S16x40x110x110_3_3_1_1_02_02 none (V (Proc.devRef .tc main_arg2)) (res_main_v139 V)) transposes_S16x40x110x110_S16x110x110x40_0_2_3_1) (mulf (broadcastInDim S16x110x110x40 ![0, 1, 2, 3] bcast_S16x1x110x40_S16x110x110x40_0_1_2_3 (broadcastInDim S16x1x110x40 ![0, 2, 3] bcast_S16x110x40_S16x1x110x40_0_2_3 (maximumf (Host.sqrt (Host.reduceAdd (mulf (res_main_v139 V) (res_main_v139 V)) (constant S_ .f32 0x00000000#32) reducesTo_S16x110x40x300_S16x110x40_d3 h_S_)) (broadcastInDim S16x110x40 ![] bcast_S_S16x110x40 (constant S_ .f32 0x322BCC77#32))))) (broadcastInDim S16x110x110x40 ![0, 1, 2, 3] bcast_S16x110x1x40_S16x110x110x40_0_1_2_3 (broadcastInDim S16x110x1x40 ![0, 1, 3] bcast_S16x110x40_S16x110x1x40_0_1_3 (maximumf (Host.sqrt (Host.reduceAdd (mulf (V (Proc.devRef .tc main_arg2)) (V (Proc.devRef .tc main_arg2))) (constant S_ .f32 0x00000000#32) reducesTo_S16x110x40x300_S16x110x40_d3 h_S_)) (broadcastInDim S16x110x40 ![] bcast_S_S16x110x40 (constant S_ .f32 0x322BCC77#32)))))))) (constant S_ .f32 0x00000000#32) reducesTo_S16x110x110x40_S16x110x110_d3 h_S_)) (broadcastInDim S16x110x110 ![] bcast_S_S16x110x110 (id (constant S_ .f32 0x00000000#32)))))

/-- The arrays the reference reads. -/
abbrev feat : FVec Ideal S16x110x300 .f32 := V (Proc.tc.devRef main_arg0)
@[inherit_doc feat] abbrev size : IVec S16 32 := V (Proc.tc.devRef main_arg1)
@[inherit_doc feat] abbrev know : FVec Ideal S16x110x40x300 .f32 := V (Proc.tc.devRef main_arg2)
@[inherit_doc feat] abbrev vale : FVec Ideal S16x110x40x1 .f32 := V (Proc.tc.devRef main_arg3)
@[inherit_doc feat] abbrev wsem : FVec Ideal S300x300 .f32 := V (Proc.tc.devRef main_arg5)
@[inherit_doc feat] abbrev wcon : FVec Ideal S300x300 .f32 := V (Proc.tc.devRef main_arg6)

/-- The window. -/
theorem ref_mask (b : Fin 16) (j k : Fin 110) : res_main_v31 V (ix3 b j k) = inside (size V (ix1 b)) j k := by
  pointwise [res_main_v31, res_main_v15, res_main_v1, res_main_v3]
  rfl

/-- The clipped cosines. -/
theorem ref_cos (b : Fin 16) (j k : Fin 110) :
    res_main_v46 V (ix3 b j k) = cosine (fun j x => feat V (ix3 b j x)) (fun x y => wsem V (ix2 x y)) j k := by
  have hp : ∀ x, res_main_v32 V (ix3 b k x) = ∑ y, feat V (ix3 b k y) * wsem V (ix2 x y) := by
    intro x
    pointwise [res_main_v32]
  pointwise [res_main_v46]
  simp only [hp]
  rfl

/-- The square root times the polynomial in powers. -/
theorem ref_poly (b : Fin 16) (j k : Fin 110) (m : EReal) (hm : res_main_v47 V (ix3 b j k) = m) :
    res_main_v92 V (ix3 b j k) = Ideal.sqrt (1 - m) * powers m := by
  subst hm
  have h68 : res_main_v68 V (ix3 b j k) = HMul.hMul (α := EReal) (res_main_v47 V (ix3 b j k)) (res_main_v47 V (ix3 b j k)) := rfl
  have h73 : res_main_v73 V (ix3 b j k) = HMul.hMul (α := EReal) (res_main_v47 V (ix3 b j k)) (res_main_v47 V (ix3 b j k)) := rfl
  have h79 : res_main_v79 V (ix3 b j k) = HMul.hMul (α := EReal) (res_main_v47 V (ix3 b j k)) (res_main_v47 V (ix3 b j k)) := rfl
  have h85 : res_main_v85 V (ix3 b j k) = HMul.hMul (α := EReal) (res_main_v47 V (ix3 b j k)) (res_main_v47 V (ix3 b j k)) := rfl
  generalize hR : (Ideal.sqrt _ * powers _ : EReal) = R
  pointwise [res_main_v92]
  rw [h68, h73, h79, h85, ← hR]
  unfold powers
  generalize res_main_v47 V (ix3 b j k) = m
  simp only [mul_one, zero_add, Ideal.ofBits_one_f32, Ideal.ofBits_zero_f32]

/-- The scores, the polynomial in powers. -/
theorem ref_score (b : Fin 16) (j k : Fin 110) :
    res_main_v101 V (ix3 b j k) = score powers (cosine (fun j x => feat V (ix3 b j x)) (fun x y => wsem V (ix2 x y)) j k) := by
  have hm : res_main_v47 V (ix3 b j k) = FloatOps.absf (F := Ideal) (φ := .f32) (res_main_v46 V (ix3 b j k)) := rfl
  rw [← ref_cos]
  pointwise [res_main_v101]
  rw [ref_poly V b j k _ hm]
  rfl

/-- A fold over the entries of one row is a fold over the row's coordinate. -/
theorem fold_row (b : Fin 16) (j : Fin 110) (z : EReal) (g : S16x110x110.Idx → EReal)
    [DecidablePred fun i => reducesTo_S16x110x110_S16x110_d2.drop i = ix2 b j] :
    Finset.fold max z g (Finset.univ.filter fun i => reducesTo_S16x110x110_S16x110_d2.drop i = ix2 b j)
      = Finset.fold max z (fun x : Fin 110 => g (ix3 b j x)) Finset.univ := by
  have hs : (Finset.univ.filter fun i => reducesTo_S16x110x110_S16x110_d2.drop i = ix2 b j)
      = Finset.univ.image (fun x : Fin 110 => (ix3 b j x : S16x110x110.Idx)) := by
    ext i
    simp only [Finset.mem_filter, Finset.mem_univ, true_and, Finset.mem_image]
    constructor
    · intro h
      refine ⟨i 2, funext fun (a : Fin 3) => ?_⟩
      have h0 : i 0 = b := congrFun h (0 : Fin 2)
      have h1 : i 1 = j := congrFun h (1 : Fin 2)
      fin_cases a
      · exact h0.symm
      · exact h1.symm
      · rfl
    · rintro ⟨x, rfl⟩
      funext (a : Fin 2)
      fin_cases a <;> rfl
  rw [hs, Finset.fold_image (fun x _ y _ h => congrFun h (2 : Fin 3))]
  rfl

/-- The peaks. -/
theorem ref_peak (b : Fin 16) (j : Fin 110) :
    res_main_v104 V (ix3 b j 0) = peak (inside (size V (ix1 b)) j)
      (fun k => score powers (cosine (fun j x => feat V (ix3 b j x)) (fun x y => wsem V (ix2 x y)) j k)) := by
  pointwise [res_main_v104]
  refine (fold_row b j _ _).trans ?_
  simp only [ref_mask, ref_score]
  rfl

/-- The shifted exponentials. -/
theorem ref_expo (b : Fin 16) (j k : Fin 110) :
    res_main_v112 V (ix3 b j k) = expo (inside (size V (ix1 b)) j)
      (fun k => score powers (cosine (fun j x => feat V (ix3 b j x)) (fun x y => wsem V (ix2 x y)) j k)) k := by
  pointwise [res_main_v112]
  simp only [ref_mask, ref_score, ref_peak]
  unfold expo shift
  rw [← Ideal.ofBits_zero_f32]
  rfl

/-- The scaled projections of the concepts. -/
theorem ref_proj (b : Fin 16) (j : Fin 110) (n : Fin 40) (d : Fin 300) :
    res_main_v139 V (ix4 b j n d) = (∑ e, know V (ix4 b j n e) * wcon V (ix2 e d))
      * affect (vale V (ix4 b j n 0) - lit 0x3F000000#32) (Ideal.div (vale V (ix4 b j n 0)) (lit 0x40000000#32)) := by
  pointwise [res_main_v139, res_main_v127, res_main_v125, res_main_v123]
  rfl

/-- One entry of the reference's result. -/
theorem ref_at (b : Fin 16) (j k : Fin 110) :
    refOut V (ix3 b j k)
      = lit 0x3F000000#32 * soft (inside (size V (ix1 b)) j)
          (fun k => score powers (cosine (fun j x => feat V (ix3 b j x)) (fun x y => wsem V (ix2 x y)) j k)) k
        + lit 0x3F000000#32 * Scalar.select (inside (size V (ix1 b)) j k) (lit 0x41200000#32
          * ∑ n : Fin 40, termR (fun d => know V (ix4 b j n d)) (fun d => ∑ e, know V (ix4 b k n e) * wcon V (ix2 e d))
              (affect (vale V (ix4 b k n 0) - lit 0x3F000000#32) (Ideal.div (vale V (ix4 b k n 0)) (lit 0x40000000#32)))) 0 := by
  have hd : res_main_v114 V (ix3 b j 0) = ∑ x, expo (inside (size V (ix1 b)) j)
      (fun k => score powers (cosine (fun j x => feat V (ix3 b j x)) (fun x y => wsem V (ix2 x y)) j k)) x := by
    pointwise [res_main_v114]
    simp only [ref_expo]
  have h1 : (id (constant (F := Ideal) S_ .f32 0x3F800000#32) ix0 : EReal) = 1 := Ideal.ofBits_one_f32
  have h0 : (id (constant (F := Ideal) S_ .f32 0x00000000#32) ix0 : EReal) = 0 := Ideal.ofBits_zero_f32
  generalize hR : (_ + _ * Scalar.select (inside (size V (ix1 b)) j k) _ _ : EReal) = R
  pointwise [refOut]
  simp only [ref_mask, ref_expo, hd, ref_proj]
  rw [h1, h0, ← hR]
  rfl

end Cert.Att

end
-- ==== Proof.Terms.lean ====
/- The two programs' scalar functions are equal: the polynomial, the concept's weight, the affect weight, the factor. -/
module

public import proofs.«01_k».proof.Proof.Spec
public import Idealize.ShloMosaic.PureOps.Ideal.Laws
public import Idealize.ShloMosaic.Lib.IdealHost

@[expose] public section

noncomputable section

namespace Cert.Att

open Idealize.ShloMosaic
open scoped BigOperators

/-- The absolute value. -/
abbrev mag (x : EReal) : EReal := FloatOps.absf (F := Ideal) (φ := .f32) x

/-- A word whose exponent bits are not all ones denotes a real number. -/
theorem lit_real (b : BitVec 32) (h : (b.extractLsb' 23 8).toNat ≠ 255) : ∃ r : ℝ, lit b = r := by
  unfold lit Ideal.ofBits Ideal.ieee
  dsimp only
  rw [if_neg (show ¬(b.extractLsb' 23 8).toNat = 2 ^ 8 - 1 from h)]
  split
  · exact ⟨_, rfl⟩
  · exact ⟨_, rfl⟩

theorem lit_half : lit 0x3F000000#32 = ((1 / 2 : ℝ) : EReal) := by
  simp [lit, Ideal.ofBits, Ideal.ieee, -EReal.coe_mul]; norm_num

theorem lit_two : lit 0x40000000#32 = ((2 : ℝ) : EReal) := by
  simp [lit, Ideal.ofBits, Ideal.ieee, -EReal.coe_mul]; norm_num

theorem lit_five : lit 0x40A00000#32 = ((5 : ℝ) : EReal) := by
  simp [lit, Ideal.ofBits, Ideal.ieee, -EReal.coe_mul]; norm_num

theorem lit_ten : lit 0x41200000#32 = ((10 : ℝ) : EReal) := by
  simp [lit, Ideal.ofBits, Ideal.ieee, -EReal.coe_mul]; norm_num

/-- The small word the lengths are kept above is a positive real. -/
theorem lit_eps : ∃ e : ℝ, 0 < e ∧ lit 0x322BCC77#32 = e := by
  refine ⟨11258999 * 2 ^ (-50 : ℤ), by positivity, ?_⟩
  simp [lit, Ideal.ofBits, Ideal.ieee, -EReal.coe_mul]

theorem mag_coe (r : ℝ) : mag (r : EReal) = ((|r| : ℝ) : EReal) := by
  unfold mag
  rw [Ideal.absf_def, abs_eq_max_neg, EReal.coe_strictMono.monotone.map_max, EReal.coe_neg]

theorem mag_zero : mag 0 = 0 := by
  rw [← EReal.coe_zero, mag_coe, abs_zero]

/-- An infinity has infinite absolute value. -/
theorem mag_inf {a : EReal} (h : a = ⊤ ∨ a = ⊥) : mag a = ⊤ := by
  unfold mag
  rw [Ideal.absf_def]
  rcases h with rfl | rfl <;> simp

/-- On real numbers the two readings of the polynomial agree. -/
theorem horner_eq (m : ℝ) : horner m = powers m := by
  obtain ⟨a0, h0⟩ := lit_real 0x3FC90FDA#32 (by decide)
  obtain ⟨a1, h1⟩ := lit_real 0xBE5BBFCA#32 (by decide)
  obtain ⟨a2, h2⟩ := lit_real 0x3DB63A9E#32 (by decide)
  obtain ⟨a3, h3⟩ := lit_real 0xBD4D8392#32 (by decide)
  obtain ⟨a4, h4⟩ := lit_real 0x3CFD10F8#32 (by decide)
  obtain ⟨a5, h5⟩ := lit_real 0xBC8BFC66#32 (by decide)
  obtain ⟨a6, h6⟩ := lit_real 0x3BDA90C5#32 (by decide)
  obtain ⟨a7, h7⟩ := lit_real 0xBAA57A2C#32 (by decide)
  unfold horner powers
  rw [h0, h1, h2, h3, h4, h5, h6, h7]
  norm_cast
  ring

/-- A clipped cosine is a real number. -/
theorem cosine_real (f : Fin 110 → Fin 300 → EReal) (w : Fin 300 → Fin 300 → EReal) (j k : Fin 110) :
    ∃ r : ℝ, cosine f w j k = r := by
  obtain ⟨hi, h1⟩ := lit_real 0x3F7FFFEF#32 (by decide)
  obtain ⟨lo, h2⟩ := lit_real 0xBF7FFFEF#32 (by decide)
  unfold cosine
  rw [h1, h2]
  generalize Ideal.div _ _ = x
  induction x using EReal.rec with
  | bot => exact ⟨min hi lo, by rw [max_eq_left bot_le, EReal.coe_strictMono.monotone.map_min]⟩
  | top => exact ⟨hi, by rw [max_eq_right le_top, min_eq_left le_top]⟩
  | coe r => exact ⟨min hi (max lo r), by
      rw [EReal.coe_strictMono.monotone.map_min, EReal.coe_strictMono.monotone.map_max]⟩

/-- The two scores of a clipped cosine agree. -/
theorem score_eq (f : Fin 110 → Fin 300 → EReal) (w : Fin 300 → Fin 300 → EReal) (j k : Fin 110) :
    score horner (cosine f w j k) = score powers (cosine f w j k) := by
  obtain ⟨r, hr⟩ := cosine_real f w j k
  have h := horner_eq |r|
  rw [← mag_coe] at h
  unfold score
  rw [hr, h]

/-- Half a valence is the valence divided by two. -/
theorem half_eq (a : EReal) : lit 0x3F000000#32 * a = Ideal.div a (lit 0x40000000#32) := by
  rw [lit_two, Ideal.div_coe two_ne_zero, lit_half, mul_comm]

/-- Five times a sum inside the window is half of ten times it. -/
theorem five_eq (m : BitVec 1) (s : EReal) :
    Scalar.select m (lit 0x40A00000#32 * s) 0 = lit 0x3F000000#32 * Scalar.select m (lit 0x41200000#32 * s) 0 := by
  unfold Scalar.select
  split
  · rw [← mul_assoc, lit_half, lit_ten, lit_five, ← EReal.coe_mul]
    norm_num
  · rw [mul_zero]

theorem div_top (x : EReal) : Ideal.div x ⊤ = 0 := by
  unfold Ideal.div
  rw [if_neg EReal.top_ne_zero, EReal.inv_top, mul_zero]

theorem mul_self_nonneg' (x : EReal) : 0 ≤ x * x := by
  induction x using EReal.rec with
  | bot => simp
  | top => simp
  | coe r => exact_mod_cast mul_self_nonneg r

/-- The length of a vector with an infinite entry is infinite. -/
theorem root_inf {n : ℕ} (v : Fin n → EReal) (h : ∃ d, v d = ⊤ ∨ v d = ⊥) : Ideal.sqrt (∑ d, v d * v d) = ⊤ := by
  obtain ⟨d, hd⟩ := h
  have ht : v d * v d = ⊤ := by rcases hd with h | h <;> rw [h] <;> simp
  have hs : ∑ d, v d * v d = ⊤ :=
    top_le_iff.1 (ht ▸ Finset.single_le_sum (f := fun d => v d * v d) (fun i _ => mul_self_nonneg' (v i)) (Finset.mem_univ d))
  rw [hs, Ideal.sqrt_top]

@[inherit_doc root_inf]
theorem norm_inf {n : ℕ} (v : Fin n → EReal) (h : ∃ d, v d = ⊤ ∨ v d = ⊥) : norm v = ⊤ := by
  unfold norm
  rw [root_inf v h, max_eq_left le_top]

theorem norm_pos {n : ℕ} (v : Fin n → EReal) : 0 < norm v := by
  obtain ⟨e, he, h⟩ := lit_eps
  unfold norm
  rw [h]
  exact lt_of_lt_of_le (by exact_mod_cast he) (le_max_right _ _)

/-- A vector without an infinite entry is a vector of real numbers. -/
theorem real_of {n : ℕ} (v : Fin n → EReal) (h : ¬∃ d, v d = ⊤ ∨ v d = ⊥) : ∃ r : Fin n → ℝ, v = fun d => (r d : EReal) := by
  push Not at h
  exact ⟨fun d => (v d).toReal, funext fun d => (EReal.coe_toReal (h d).1 (h d).2).symm⟩

theorem coe_sum {n : ℕ} (f : Fin n → ℝ) : ∑ d, (f d : EReal) = ((∑ d, f d : ℝ) : EReal) := by
  induction (Finset.univ : Finset (Fin n)) using Finset.induction_on with
  | empty => simp
  | insert a s h ih => rw [Finset.sum_insert h, Finset.sum_insert h, ih, EReal.coe_add]

/-- The root of the sum of squares of real numbers. -/
theorem root_real {n : ℕ} (r : Fin n → ℝ) :
    Ideal.sqrt (∑ d, (r d : EReal) * (r d : EReal)) = ((Real.sqrt (∑ d, r d * r d) : ℝ) : EReal) := by
  simp only [← EReal.coe_mul]
  rw [coe_sum, Ideal.sqrt_coe, if_neg (not_lt.2 (Finset.sum_nonneg fun d _ => mul_self_nonneg (r d)))]

/-- A vector scaled by a factor is as long as the vector times the factor's absolute value. -/
theorem root_scaled {n : ℕ} (c : Fin n → ℝ) (a : ℝ) :
    Real.sqrt (∑ d, c d * a * (c d * a)) = |a| * Real.sqrt (∑ d, c d * c d) := by
  have h : ∑ d, c d * a * (c d * a) = a ^ 2 * ∑ d, c d * c d := by
    rw [Finset.mul_sum]
    exact Finset.sum_congr rfl fun d _ => by ring
  rw [h, Real.sqrt_mul (sq_nonneg a), Real.sqrt_sq_eq_abs]

/-- The kernel's weight is zero where the scaled length is infinite. -/
theorem termK_inf {n : ℕ} (v c : Fin n → EReal) (a : EReal) (h : mag a * Ideal.sqrt (∑ d, c d * c d) = ⊤) : termK v c a = 0 := by
  unfold termK
  rw [h, max_eq_left le_top, div_top, zero_mul, mul_zero]

/-- The reference's weight is zero where the scaled length is infinite. -/
theorem termR_inf {n : ℕ} (v c : Fin n → EReal) (a : EReal) (h : ∃ d, c d * a = ⊤ ∨ c d * a = ⊥) : termR v c a = 0 := by
  unfold termR
  rw [norm_inf _ h, EReal.top_mul_of_pos (norm_pos v), div_top]
  exact mag_zero

/-- An infinity times a nonzero number is an infinity. -/
theorem inf_mul {x y : EReal} (hx : x = ⊤ ∨ x = ⊥) (hy : y ≠ 0) : x * y = ⊤ ∨ x * y = ⊥ := by
  rcases lt_or_gt_of_ne hy with h | h <;> rcases hx with rfl | rfl
  · exact Or.inr (EReal.top_mul_of_neg h)
  · exact Or.inl (EReal.bot_mul_of_neg h)
  · exact Or.inl (EReal.top_mul_of_pos h)
  · exact Or.inr (EReal.bot_mul_of_pos h)

/-- Both weights are zero where the dot products are. -/
theorem term_zero {n : ℕ} (v c : Fin n → EReal) (a : EReal) (hK : mag a = 0 ∨ ∑ d, v d * c d = 0)
    (hR : ∀ d, c d * a = 0) : termK v c a = termR v c a := by
  obtain ⟨e, he, hl⟩ := lit_eps
  have h1 : termK v c a = 0 := by
    unfold termK
    rcases hK with h | h
    · have hd : ∀ y : EReal, Ideal.div 0 (max (0 * y) (lit 0x322BCC77#32)) = 0 := by
        intro y
        rw [zero_mul, hl, max_eq_right (by exact_mod_cast he.le), Ideal.div_coe he.ne', zero_mul]
      rw [show FloatOps.absf (F := Ideal) (φ := .f32) a = 0 from h, hd, zero_mul, mul_zero]
    · rw [h, show FloatOps.absf (F := Ideal) (φ := .f32) (0 : EReal) = 0 from mag_zero, zero_mul]
  have h2 : termR v c a = 0 := by
    unfold termR
    have hs : ∑ d, v d * (c d * a) = 0 := Finset.sum_eq_zero fun d _ => by rw [hR d, mul_zero]
    rw [hs, Ideal.div, if_neg (EReal.mul_pos (norm_pos _) (norm_pos v)).ne', zero_mul]
    exact mag_zero
  rw [h1, h2]

/-- The weights of real vectors and a real factor agree. -/
theorem term_real {n : ℕ} (v c : Fin n → ℝ) (a : ℝ) :
    termK (fun d => (v d : EReal)) (fun d => (c d : EReal)) a = termR (fun d => (v d : EReal)) (fun d => (c d : EReal)) a := by
  obtain ⟨e, he, hl⟩ := lit_eps
  have hn : ∀ r : Fin n → ℝ, norm (fun d => (r d : EReal)) = ((max (Real.sqrt (∑ d, r d * r d)) e : ℝ) : EReal) := by
    intro r
    unfold norm
    rw [root_real, hl, EReal.coe_strictMono.monotone.map_max]
  have hm : ∀ r : ℝ, FloatOps.absf (F := Ideal) (φ := .f32) (r : EReal) = ((|r| : ℝ) : EReal) := mag_coe
  have hp : ∀ x : ℝ, max x e ≠ 0 := fun x => (lt_of_lt_of_le he (le_max_right x e)).ne'
  unfold termK termR
  rw [root_real, hn v]
  simp only [← EReal.coe_mul]
  rw [hn fun d => c d * a, root_scaled, coe_sum, coe_sum, hm, hm, hl, ← EReal.coe_mul, ← EReal.coe_mul,
    ← EReal.coe_strictMono.monotone.map_max, Ideal.div_coe (hp _), Ideal.div_coe (hp _),
    Ideal.div_coe (mul_ne_zero (hp _) (hp _)), one_mul]
  simp only [← EReal.coe_mul]
  rw [hm]
  have hs : ∑ d, v d * (c d * a) = (∑ d, v d * c d) * a := by
    rw [Finset.sum_mul]
    exact Finset.sum_congr rfl fun d _ => (mul_assoc _ _ _).symm
  have hq : ∀ x : ℝ, |max x e| = max x e := fun x => abs_of_pos (lt_of_lt_of_le he (le_max_right x e))
  rw [hs, abs_mul, abs_mul, abs_div, abs_one, abs_mul, hq, hq]
  congr 1
  field_simp

/-- The concept's weight: a dot product times two reciprocals is the cosine with the scaled vector, infinities included. -/
theorem term_eq {n : ℕ} (v c : Fin n → EReal) (a : EReal) : termK v c a = termR v c a := by
  by_cases hv : ∃ d, v d = ⊤ ∨ v d = ⊥
  · have h := norm_inf v hv
    unfold termK termR
    rw [h, div_top, mul_zero, mul_zero, EReal.mul_top_of_pos (norm_pos _), div_top]
    exact mag_zero.symm
  obtain ⟨v, rfl⟩ := real_of v hv
  by_cases ha : a = 0
  · subst ha
    exact term_zero _ _ _ (Or.inl mag_zero) fun d => mul_zero _
  by_cases hc : ∃ d, c d = ⊤ ∨ c d = ⊥
  · have hpos : 0 < mag a := by
      unfold mag
      rw [Ideal.absf_def]
      rcases lt_or_gt_of_ne ha with h | h
      · exact lt_of_lt_of_le (EReal.neg_pos.2 h) (le_max_right _ _)
      · exact lt_of_lt_of_le h (le_max_left _ _)
    rw [termK_inf _ c a (by rw [root_inf c hc, EReal.mul_top_of_pos hpos]),
      termR_inf _ c a (hc.imp fun d hd => inf_mul hd ha)]
  obtain ⟨c, rfl⟩ := real_of c hc
  by_cases hi : a = ⊤ ∨ a = ⊥
  · by_cases hz : ∀ d, c d = 0
    · refine term_zero _ _ _ (Or.inr (Finset.sum_eq_zero fun d _ => ?_)) fun d => ?_
      · rw [hz d, EReal.coe_zero, mul_zero]
      · rw [hz d, EReal.coe_zero, zero_mul]
    · push Not at hz
      obtain ⟨d, hd⟩ := hz
      have hr : 0 < Real.sqrt (∑ d, c d * c d) := Real.sqrt_pos.2 <|
        lt_of_lt_of_le (mul_self_pos.2 hd) (Finset.single_le_sum (f := fun d => c d * c d) (fun i _ => mul_self_nonneg (c i)) (Finset.mem_univ d))
      rw [termK_inf _ _ a (by rw [root_real, mag_inf hi, EReal.top_mul_of_pos (by exact_mod_cast hr)]),
        termR_inf _ _ a ⟨d, by rw [mul_comm]; exact inf_mul hi (by exact_mod_cast hd)⟩]
  · push Not at hi
    obtain ⟨r, rfl⟩ : ∃ r : ℝ, a = r := ⟨a.toReal, (EReal.coe_toReal hi.1 hi.2).symm⟩
    exact term_real v c r

end Cert.Att

end
-- ==== Proof.Equation.lean ====
/- The array the kernel leaves is the array the reference leaves. -/
module

public import proofs.«01_k».proof.Proof.KernelValue
public import proofs.«01_k».proof.Proof.KernelPoint
public import proofs.«01_k».proof.Proof.ReferencePoint
public import proofs.«01_k».proof.Proof.Terms

@[expose] public section

set_option maxRecDepth 16384

noncomputable section

namespace Cert.Att

open Idealize.ShloMosaic Idealize.ShloMosaic.TcCoe
open Idealize.SL Idealize.SL.Sem

/-- Entry by entry: the semantic halves by the polynomial, the conceptual halves term by term. -/
theorem entry_eq (V : Valuation Cert.ReferenceIdeal.τ Cert.ReferenceIdeal.sig (Elt Ideal)) (b : Fin 16) (j k : Fin 110) :
    block (featBlk (feat V) b) (knowBlk (know V) b) (affBlk (vale V) b) (wsem V) (wcon V) (size V (ix1 b)) (ix3 0 j k)
      = refOut V (ix3 b j k) := by
  refine (block_at _ _ _ _ _ _ j k).trans (Eq.trans ?_ (ref_at V b j k).symm)
  rw [← five_eq]
  simp only [score_eq, half_eq, term_eq]
  rfl

/-- The whole array. -/
theorem array_eq (V : Valuation Cert.ReferenceIdeal.τ Cert.ReferenceIdeal.sig (Elt Ideal)) :
    kernelOut (feat V) (size V) (know V) (vale V) (wsem V) (wcon V) = refOut V := by
  funext i
  have hi : i = ix3 (i 0) (i 1) (i 2) := funext fun (a : Fin 3) => by fin_cases a <;> rfl
  exact (entry_eq V (i 0) (i 1) (i 2)).trans (congrArg (refOut V) hi.symm)

end Cert.Att

end
-- ==== Proof.lean ====
/- The assembly: the three frames, and the kernel's array against the reference's. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equation

@[expose] public section

set_option maxRecDepth 16384

noncomputable section

namespace Cert.Proof

open Idealize.ShloMosaic Idealize.ShloMosaic.TcCoe Idealize.SL.Sem Idealize.ShloMosaic.StableHlo

/-- No bound is asked of the original program's table. -/
theorem ok_bits (m : (ℓ : Loc Cert.Kernel.nD Cert.Kernel.τ Cert.Kernel.sig) → Buf (Elt Bits) ℓ) : Cert.Kernel.Gen.Ok m := by
  unfold Cert.Kernel.Gen.Ok
  trivial

/-- The reference leaves its arguments and the counters alone. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The kernel's run: its result array, and its arguments unchanged. -/
theorem run_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v3)
          = Cert.Att.kernelOut (m ((c.tc : Thread _ _).loc Cert.KernelIdeal.main_arg0)) (m ((c.tc : Thread _ _).loc Cert.KernelIdeal.main_arg1))
            (m ((c.tc : Thread _ _).loc Cert.KernelIdeal.main_arg2)) (m ((c.tc : Thread _ _).loc Cert.KernelIdeal.main_arg3))
            (m ((c.tc : Thread _ _).loc Cert.KernelIdeal.main_arg5)) (m ((c.tc : Thread _ _).loc Cert.KernelIdeal.main_arg6))) :=
  (θ_run Cert.KernelIdeal.defs _ _).mono (fun _ h c => ((h c).1 5).trans (Cert.Att.final m c))
    (Cert.KernelIdeal.Gen.run_main m g (Cert.Att.ok m))

/-- The reference's run: its result as its operations compose it, and its arguments unchanged. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v163)
          = Cert.Att.refOut (launchContents m c)) :=
  (θ_run Cert.ReferenceIdeal.defs _ _).mono (fun _ h c => (h c).1) (Cert.ReferenceIdeal.Value.run m g)

/-- From equal arguments the kernel and the reference leave equal arrays. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Att.kernelOut (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg5))
      (m ((c.tc : Thread _ _).loc Cert.KernelIdeal.main_arg6)),
    (θ_run Cert.KernelIdeal.defs _ _).mono (fun r h c => ⟨h.1 c, h.2 c⟩)
      (θ_run_and (run_kernel m g) (Cert.KernelIdeal.Gen.unchanged m g (Cert.Att.ok m))), ?_⟩
  refine (θ_run Cert.ReferenceIdeal.defs _ _).mono (fun r h c => ⟨(h.1 c).trans ?_, h.2.1 c⟩)
    (θ_run_and (run_reference m' g') (frame_reference m' g' trivial))
  obtain ⟨h0, h1, h2, h3, _, h5, h6⟩ := hargs c
  refine (Cert.Att.array_eq (launchContents m' c)).symm.trans ?_
  exact congr (congr (congr (congr (congr (congrArg Cert.Att.kernelOut h0) h1) h2) h3) h5) h6

theorem claim : Cert.Claim :=
  ⟨Cert.Kernel.Gen.facts, Cert.KernelIdeal.Gen.facts, Cert.ReferenceIdeal.Gen.facts,
    fun m g _ => Cert.Kernel.Gen.frame m g (ok_bits m), fun m g _ => Cert.KernelIdeal.Gen.frame m g (Cert.Att.ok m),
    frame_reference, trivial, algebraic⟩

end Cert.Proof

end
